-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_largest_logit_finite [hPre_largest_logit_finite : Cert.Pre_largest_logit_finite.Facts] (m : (ℓ : Loc Cert.KernelIdeal.nD Cert.KernelIdeal.τ Cert.KernelIdeal.sig) → Buf (Elt Ideal) ℓ) : Prop :=
  ∀ c : Dev Cert.KernelIdeal.nD,
    (Cert.Pre_largest_logit_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_largest_logit_finite [hPre_largest_logit_finite : Cert.Pre_largest_logit_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_largest_logit_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_largest_logit_finite [hKernelIdeal : Cert.KernelIdeal.Facts] [hPre_largest_logit_finite : Cert.Pre_largest_logit_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_largest_logit_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_largest_logit_finite [hReferenceIdeal : Cert.ReferenceIdeal.Facts] [hPre_largest_logit_finite : Cert.Pre_largest_logit_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_largest_logit_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_largest_logit_finite [hKernelIdeal : Cert.KernelIdeal.Facts] [hReferenceIdeal : Cert.ReferenceIdeal.Facts] [hPre_largest_logit_finite : Cert.Pre_largest_logit_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_largest_logit_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_largest_logit_finite : Cert.Pre_largest_logit_finite.Facts),
    quiescent_Kernel (hKernel := hKernel)
    ∧ quiescent_KernelIdeal (hKernelIdeal := hKernelIdeal)
    ∧ quiescent_KernelIdeal_pre_largest_logit_finite (hKernelIdeal := hKernelIdeal) (hPre_largest_logit_finite := hPre_largest_logit_finite)
    ∧ quiescent_ReferenceIdeal (hReferenceIdeal := hReferenceIdeal)
    ∧ quiescent_ReferenceIdeal_pre_largest_logit_finite (hReferenceIdeal := hReferenceIdeal) (hPre_largest_logit_finite := hPre_largest_logit_finite)
    ∧ preserves_Kernel_KernelIdeal
    ∧ algebraic_KernelIdeal_ReferenceIdeal_pre_largest_logit_finite (hKernelIdeal := hKernelIdeal) (hReferenceIdeal := hReferenceIdeal) (hPre_largest_logit_finite := hPre_largest_logit_finite)
-- ==== Pre_largest_logit_finite.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩

class Facts : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  reducesTo_S16384_S_d0 : S16384.ReducesTo [0] S_
  dot_S16384x2048_S2048x64_S16384x64_1_0_0_1_n_n_wf : DotDims.WF S16384x2048 S2048x64 S16384x64 [1] [0] [0] [1] [] []

variable [Facts]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def fn {F : FTy → Type} [FloatOps F] (main_arg0 : FVec F S16384x2048 .f32) (main_arg1 : FVec F S64x2048 .f32) (main_arg2 : FVec F S64 .f32) : IVec S_ 1 :=
  let main_v0 : FVec F S2048x64 .f32 := (transpose S2048x64 [1, 0] · transposes_S64x2048_S2048x64_1_0) main_arg1
  let main_v1 : FVec F S16384x64 .f32 := (fun l r => Host.dotGeneral dot_S16384x2048_S2048x64_S16384x64_1_0_0_1_n_n none l r) main_arg0 main_v0
  let main_v2 : FVec F S1x64 .f32 := broadcastInDim S1x64 ![1] bcast_S64_S1x64_1 main_arg2
  let main_v3 : FVec F S16384x64 .f32 := broadcastInDim S16384x64 ![0, 1] bcast_S1x64_S16384x64_0_1 main_v2
  let main_v4 : FVec F S16384x64 .f32 := addf main_v1 main_v3
  let main_cst : FVec F S_ .f32 := constant S_ .f32 0xFF800000#32
  let main_v5 : FVec F S16384 .f32 := (fun x v => Host.reduce FloatOps.maximumf x v reducesTo_S16384x64_S16384_d1 h_S_) main_v4 main_cst
  let main_v6 : FVec F S16384 .f32 := Host.absf main_v5
  let main_cst_0 : FVec F S_ .f32 := constant S_ .f32 0x7F800000#32
  let main_v7 : FVec F S16384 .f32 := broadcastInDim S16384 ![] bcast_S_S16384 main_cst_0
  let main_v8 : IVec S16384 1 := cmpf .olt main_v6 main_v7
  let main_c : IVec S_ 1 := constantI S_ 1 1#1
  let main_v9 : IVec S_ 1 := (fun x v => Host.reduce IntOp.andi x v reducesTo_S16384_S_d0 h_S_) main_v8 main_c
  main_v9
-- ==== Kernel.lean ====
abbrev S16384x2048 : Shape := ⟨2, ![16384, 2048]⟩
abbrev S64x2048 : Shape := ⟨2, ![64, 2048]⟩
abbrev S64 : Shape := ⟨1, ![64]⟩
abbrev S64x1 : Shape := ⟨2, ![64, 1]⟩
abbrev S16384x8 : Shape := ⟨2, ![16384, 8]⟩
abbrev S16384x64 : Shape := ⟨2, ![16384, 64]⟩
abbrev S2048x2048 : Shape := ⟨2, ![2048, 2048]⟩
abbrev S2048x8 : Shape := ⟨2, ![2048, 8]⟩
abbrev S2048x64 : Shape := ⟨2, ![2048, 64]⟩
abbrev S2048 : Shape := ⟨1, ![2048]⟩
abbrev S1x2048 : Shape := ⟨2, ![1, 2048]⟩
abbrev S8x2048 : Shape := ⟨2, ![8, 2048]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S64x1, .f32⟩
  | .hbm, ⟨4, _⟩ => ⟨S16384x8, .f32⟩
  | .hbm, ⟨5, _⟩ => ⟨S16384x8, .i32⟩
  | .hbm, ⟨6, _⟩ => ⟨S16384x64, .f32⟩
  | .local _ .vmem, ⟨0, _⟩ => ⟨S2048x2048, .f32⟩
  | .local _ .vmem, ⟨1, _⟩ => ⟨S2048x2048, .f32⟩
  | .local _ .vmem, ⟨2, _⟩ => ⟨S64x2048, .f32⟩
  | .local _ .vmem, ⟨3, _⟩ => ⟨S64x1, .f32⟩
  | .local _ .vmem, ⟨4, _⟩ => ⟨S2048x8, .f32⟩
  | .local _ .vmem, ⟨5, _⟩ => ⟨S2048x8, .f32⟩
  | .local _ .vmem, ⟨6, _⟩ => ⟨S2048x8, .i32⟩
  | .local _ .vmem, ⟨7, _⟩ => ⟨S2048x8, .i32⟩
  | .local _ .vmem, ⟨8, _⟩ => ⟨S2048x64, .f32⟩
  | .local _ .vmem, ⟨9, _⟩ => ⟨S2048x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | .hbm, ⟨22, _⟩ => ⟨S16384x8, .f32⟩
  | .hbm, ⟨23, _⟩ => ⟨S16384x8, .i32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩

abbrev nD : Nat := 1
abbrev τ : Topo := Topo.v7x

variable {F : FTy → Type} [FloatOps F]
-- ==== Proof.Rounds.lean ====
/-
  The eight rounds of the kernel on ONE column of 64 numbers, and what they have to do with a stable sort.

  A round takes the column's maximum, finds the first row that holds it, and overwrites that row with −1. The first
  row is found as the least of "the row's number where the entry is the maximum, 64 elsewhere". On a column with no
  negative entry a struck row is never picked again, so that the rounds pick the rows in the order "greater entry
  first, then lower row": the first rows of a stable sort by the entry alone.
-/
module

public import Idealize.ShloMosaic.Lib.SortPrefix
public import Mathlib.Data.EReal.Basic
public import Mathlib.Data.EReal.Operations

@[expose] public section

noncomputable section

namespace Cert.Gating

open Idealize.ShloMosaic

/-- A column: one number per expert. -/
abbrev Column := Fin 64 → EReal

/-! ## One round -/

/-- The greatest entry. -/
def greatest (w : Column) : EReal := Finset.univ.sup w

/-- The number of the first row that holds the greatest entry, as the round computes it. -/
def firstRow (w : Column) : EReal := Finset.univ.inf fun r => if w r = greatest w then ((r : ℕ) : EReal) else 64

/-- The column after the round: the row found is overwritten with −1. -/
def strike (w : Column) : Column := fun r => if ((r : ℕ) : EReal) = firstRow w then -1 else w r

theorem neg_one_lt_zero : (-1 : EReal) < 0 := by
  rw [← EReal.coe_one, ← EReal.coe_neg, ← EReal.coe_zero, EReal.coe_lt_coe_iff]
  norm_num

theorem exists_greatest (w : Column) : (Finset.univ.filter fun r => w r = greatest w).Nonempty := by
  obtain ⟨r, -, h⟩ := Finset.exists_mem_eq_sup Finset.univ Finset.univ_nonempty w
  exact ⟨r, by simp [greatest, h]⟩

/-- The row that the round picks. -/
def pick (w : Column) : Fin 64 := (Finset.univ.filter fun r => w r = greatest w).min' (exists_greatest w)

theorem apply_pick (w : Column) : w (pick w) = greatest w :=
  (Finset.mem_filter.mp (Finset.min'_mem _ (exists_greatest w))).2

theorem le_apply_pick (w : Column) (r : Fin 64) : w r ≤ w (pick w) :=
  (Finset.le_sup (f := w) (Finset.mem_univ r)).trans (apply_pick w).ge

theorem pick_le (w : Column) (r : Fin 64) (h : w r = w (pick w)) : pick w ≤ r :=
  Finset.min'_le (Finset.univ.filter fun r => w r = greatest w) r
    (Finset.mem_filter.mpr ⟨Finset.mem_univ r, h.trans (apply_pick w)⟩)

theorem natCast_le_iff (a b : ℕ) : ((a : ℕ) : EReal) ≤ (b : EReal) ↔ a ≤ b := by
  rw [← EReal.coe_natCast, ← EReal.coe_natCast, EReal.coe_le_coe_iff, Nat.cast_le]

theorem natCast_inj_iff (a b : ℕ) : ((a : ℕ) : EReal) = (b : EReal) ↔ a = b := by
  rw [← EReal.coe_natCast, ← EReal.coe_natCast, EReal.coe_eq_coe_iff, Nat.cast_inj]

theorem firstRow_eq (w : Column) : firstRow w = ((pick w : ℕ) : EReal) := by
  refine le_antisymm ?_ (Finset.le_inf fun r _ => ?_)
  · refine (Finset.inf_le (Finset.mem_univ (pick w))).trans ?_
    rw [if_pos (apply_pick w)]
  · split
    · next h => exact (natCast_le_iff _ _).mpr (pick_le w r (h.trans (apply_pick w).symm))
    · exact (natCast_le_iff _ 64).mpr (pick w).isLt.le

theorem strike_apply (w : Column) (r : Fin 64) : strike w r = if r = pick w then -1 else w r := by
  unfold strike
  rw [firstRow_eq]
  exact if_congr ((natCast_inj_iff _ _).trans Fin.val_inj) rfl rfl

/-! ## The rounds one after another -/

/-- The column that round `k` starts from. -/
def after (w : Column) (k : ℕ) : Column := strike^[k] w

theorem after_succ (w : Column) (k : ℕ) : after w (k + 1) = strike (after w k) :=
  Function.iterate_succ_apply' strike k w

/-- The row that round `k` picks. -/
def chosen (w : Column) (k : ℕ) : Fin 64 := pick (after w k)

/-- A row picked before round `k` holds −1, any other its first entry. -/
theorem after_apply (w : Column) (k : ℕ) (r : Fin 64) :
    after w k r = if ∃ j < k, chosen w j = r then -1 else w r := by
  induction k with
  | zero => simp [after]
  | succ k ih =>
    rw [after_succ, strike_apply, ih]
    by_cases h : r = chosen w k
    · rw [if_pos (show r = pick (after w k) from h), if_pos ⟨k, k.lt_succ_self, h.symm⟩]
    · rw [if_neg (show ¬ r = pick (after w k) from h)]
      refine if_congr ⟨fun ⟨j, hj, e⟩ => ⟨j, by omega, e⟩, fun ⟨j, hj, e⟩ => ?_⟩ rfl rfl
      rcases Nat.lt_succ_iff_lt_or_eq.mp hj with hj | rfl
      · exact ⟨j, hj, e⟩
      · exact absurd e.symm h

theorem after_of_not_chosen {w : Column} {k : ℕ} {r : Fin 64} (h : ¬ ∃ j < k, chosen w j = r) : after w k r = w r := by
  rw [after_apply, if_neg h]

/-- Fewer than 64 rounds leave a row unpicked. -/
theorem exists_not_chosen (w : Column) {k : ℕ} (hk : k < 64) : ∃ r, ¬ ∃ j < k, chosen w j = r := by
  by_contra hall
  push Not at hall
  have hsub : (Finset.univ : Finset (Fin 64)) ⊆ (Finset.range k).image (chosen w) := fun r _ => by
    obtain ⟨j, hj, e⟩ := hall r
    exact Finset.mem_image.mpr ⟨j, Finset.mem_range.mpr hj, e⟩
  have h := (Finset.card_le_card hsub).trans Finset.card_image_le
  simp at h
  omega

section nonneg
variable {w : Column} (hw : ∀ r, 0 ≤ w r)
include hw

/-- No round picks a row picked before. -/
theorem chosen_fresh {k : ℕ} (hk : k < 64) : ¬ ∃ j < k, chosen w j = chosen w k := by
  intro h
  obtain ⟨r, hr⟩ := exists_not_chosen w hk
  have hle : after w k r ≤ after w k (chosen w k) := le_apply_pick _ r
  rw [after_of_not_chosen hr, after_apply, if_pos h] at hle
  exact absurd ((hw r).trans hle) (not_le.mpr neg_one_lt_zero)

/-- The greatest entry of round `k` is the first column's entry at the row picked. -/
theorem greatest_after {k : ℕ} (hk : k < 64) : greatest (after w k) = w (chosen w k) := by
  rw [← apply_pick]
  exact after_of_not_chosen (chosen_fresh hw hk)

/-- Against a row not picked before, the row picked holds a greater entry, or an equal one and stands no lower. -/
theorem chosen_dominates {k : ℕ} (hk : k < 64) {p : Fin 64} (hp : ¬ ∃ j < k, chosen w j = p) :
    w p ≤ w (chosen w k) ∧ (w p = w (chosen w k) → chosen w k ≤ p) := by
  have h1 := le_apply_pick (after w k) p
  have h2 := pick_le (after w k) p
  rw [after_of_not_chosen hp] at h1 h2
  have e : after w k (pick (after w k)) = w (chosen w k) := after_of_not_chosen (chosen_fresh hw hk)
  rw [e] at h1 h2
  exact ⟨h1, h2⟩

end nonneg

/-! ## A stable sort by the entry alone -/

/-- A stable sort of a list in ascending order, by a key alone, is the sort by the key and then the position. -/
theorem stableSort_eq_of_ascending {n : ℕ} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_eq_of_ascending {n : ℕ} (R R' : Fin n → Fin n → Bool) (h : ∀ a b, a < b → R b a = R' b a) :
    sortedFrom R = sortedFrom R' := by
  have e : sortPositions n R = sortPositions n R' :=
    stableSort_eq_of_ascending R R' h _ (List.pairwise_lt_finRange n)
  funext k
  unfold sortedFrom
  rw [List.get_of_eq e]
  rfl

/-- "Greater key first, then the lower position". -/
def before (p : Column) (a b : Fin 64) : Bool := decide (p b < p a) || (decide (p a = p b) && decide (a < b))

theorem before_strictTotal (p : Column) : StrictTotalBefore (before p) :=
  StrictTotalBefore.of_key_then_position (fun x y : EReal => decide (y < x)) p (fun a => by simp)
    (fun a b c hab hbc => by
      simp only [decide_eq_true_eq] at hab hbc ⊢
      exact hbc.trans hab)
    (fun a b => by
      simp only [decide_eq_true_eq]
      rcases lt_trichotomy a b with h | h | h
      · exact Or.inr (Or.inr h)
      · exact Or.inr (Or.inl h)
      · exact Or.inl h)

/-- THE ROUNDS ARE THE SORT'S FIRST ROWS: if the keys `p` order the rows as the column `w` does, a stable sort of the
    rows by greater `p` first puts at position `k` the row that round `k` on `w` picks. -/
theorem sortedFrom_eq_chosen {w p : Column} (hw : ∀ r, 0 ≤ w r) (hp : ∀ a b, p a < p b ↔ w a < w b) (k : Fin 8) :
    sortedFrom (fun a b => decide (p b < p a)) (k.castLE (by decide)) = chosen w k := by
  have e : sortedFrom (fun a b : Fin 64 => decide (p b < p a)) = sortedFrom (before p) :=
    sortedFrom_eq_of_ascending _ _ fun a b hab => by simp [before, hab.le]
  have hdom : ∀ (i : Fin 8) (q : Fin 64), (¬ ∃ j < (i : ℕ), chosen w j = q) → before p q (chosen w i) = false := by
    intro i q hq
    obtain ⟨h1, h2⟩ := chosen_dominates hw (k := i) (by omega) hq
    have hlt : ¬ p (chosen w i) < p q := fun h => absurd ((hp _ _).mp h) (not_lt.mpr h1)
    have hle : p q = p (chosen w i) → chosen w i ≤ q := fun h => h2 <| by
      refine le_antisymm h1 (not_lt.mp fun hlt' => ?_)
      exact absurd ((hp _ _).mpr hlt') (by rw [h]; exact lt_irrefl _)
    simpa [before, hlt] using hle
  rw [e]
  refine (before_strictTotal p).sortedFrom_eq_of_prefix (by decide) (fun j : Fin 8 => chosen w j) ?_ ?_ ?_ k
  · intro i j hij
    rcases lt_trichotomy i j with h | h | h
    · exact absurd ⟨(i : ℕ), h, hij⟩ (chosen_fresh hw (by omega))
    · exact h
    · exact absurd ⟨(j : ℕ), h, hij.symm⟩ (chosen_fresh hw (by omega))
  · intro i j hij
    refine hdom i _ ?_
    rintro ⟨l, hl, el⟩
    exact chosen_fresh hw (k := j) (by omega) ⟨l, by have : (i : ℕ) < j := hij; omega, el⟩
  · rintro i q hq
    exact hdom i q fun ⟨l, hl, el⟩ => hq ⟨l, by omega⟩ el

end Cert.Gating

end
-- ==== Proof.Softmax.lean ====
/-
  The softmax of one row of 64 logits on the extended reals, with the row's maximum taken off before the exponential
  (the reference) and without (the kernel). The two are equal whenever the row's greatest logit is finite; a logit of
  minus infinity is allowed, and gets the weight 0.
-/
module

public import proofs.«01_k».proof.Proof.Rounds
public import Idealize.ShloMosaic.PureOps.Ideal
public import Mathlib.Data.EReal.Inv

@[expose] public section

noncomputable section

namespace Cert.Gating

open Idealize.ShloMosaic

/-- The exponentials of a row of logits: the column on which the kernel's rounds run. -/
def exps (l : Column) : Column := fun r => Ideal.exp (l r)

/-- The kernel's factor: one over the sum of the exponentials. -/
def scale (l : Column) : EReal := Ideal.div 1 (∑ k, Ideal.exp (l k))

/-- The reference's softmax. -/
def softmax (l : Column) : Column := fun r =>
  Ideal.div (Ideal.exp (l r - greatest l)) (∑ k, Ideal.exp (l k - greatest l))

/-- The greatest logit is finite. -/
def TopFinite (l : Column) : Prop := greatest l ≠ ⊤ ∧ greatest l ≠ ⊥

theorem exp_nonneg (x : EReal) : 0 ≤ Ideal.exp x := by
  induction x with
  | bot => exact le_refl _
  | coe r => exact EReal.coe_nonneg.mpr (Real.exp_pos r).le
  | top => exact le_top

theorem exps_nonneg (l : Column) (r : Fin 64) : 0 ≤ exps l r := exp_nonneg _

theorem coe_sum (e : Fin 64 → ℝ) : ∑ r, ((e r : ℝ) : EReal) = ((∑ r, e r : ℝ) : EReal) :=
  (map_sum (⟨⟨Real.toEReal, EReal.coe_zero⟩, EReal.coe_add⟩ : ℝ →+ EReal) e Finset.univ).symm

/-- Off plus infinity an exponential is a real number, and taking a real `m` off first divides it by `exp m`. -/
theorem exp_real {x : EReal} (hx : x ≠ ⊤) (m : ℝ) :
    ∃ a : ℝ, 0 ≤ a ∧ (x ≠ ⊥ → 0 < a) ∧ Ideal.exp x = (a : EReal) ∧
      Ideal.exp (x - (m : EReal)) = ((a * Real.exp (-m) : ℝ) : EReal) := by
  induction x with
  | bot => exact ⟨0, le_refl _, fun h => absurd rfl h, EReal.coe_zero.symm, by
      rw [EReal.bot_sub, Ideal.exp_bot, zero_mul, EReal.coe_zero]⟩
  | coe r => exact ⟨Real.exp r, (Real.exp_pos r).le, fun _ => Real.exp_pos r, rfl, by
      rw [← EReal.coe_sub, Ideal.exp_coe, ← Real.exp_add, sub_eq_add_neg]⟩
  | top => exact absurd rfl hx

section finite
variable {l : Column} (hl : TopFinite l)
include hl

/-- The row in real numbers. -/
theorem exists_real : ∃ (e : Fin 64 → ℝ) (c : ℝ), 0 < c ∧ 0 < ∑ r, e r ∧ (∀ r, exps l r = (e r : EReal)) ∧
    ∀ r, Ideal.exp (l r - greatest l) = ((e r * c : ℝ) : EReal) := by
  have hm : greatest l = ((greatest l).toReal : EReal) := (EReal.coe_toReal hl.1 hl.2).symm
  have hr : ∀ r, l r ≠ ⊤ := fun r h =>
    hl.1 (top_le_iff.mp (h.symm.le.trans (Finset.le_sup (f := l) (Finset.mem_univ r))))
  choose e h0 hpos h1 h2 using fun r => exp_real (hr r) (greatest l).toReal
  refine ⟨e, Real.exp (-(greatest l).toReal), Real.exp_pos _, ?_, h1, fun r => ?_⟩
  · refine Finset.sum_pos' (fun r _ => h0 r) ⟨pick l, Finset.mem_univ _, hpos _ ?_⟩
    rw [apply_pick l]
    exact hl.2
  · rw [← h2 r, ← hm]

/-- The two softmaxes agree. -/
theorem softmax_eq (r : Fin 64) : softmax l r = exps l r * scale l := by
  obtain ⟨e, c, hc, hS, h1, h2⟩ := exists_real hl
  have hSc : ∑ k, e k * c ≠ 0 := by rw [← Finset.sum_mul]; exact (mul_pos hS hc).ne'
  have h1' : ∀ k, Ideal.exp (l k) = (e k : EReal) := h1
  unfold softmax scale exps
  simp only [h2, h1']
  rw [coe_sum, Ideal.div_coe hSc, coe_sum, Ideal.div_coe hS.ne', one_mul,
    ← EReal.coe_mul, ← EReal.coe_mul, ← Finset.sum_mul]
  congr 1
  field_simp

/-- The softmax orders the experts as the exponentials do. -/
theorem softmax_lt_iff (a b : Fin 64) : softmax l a < softmax l b ↔ exps l a < exps l b := by
  rw [softmax_eq hl, softmax_eq hl]
  obtain ⟨e, c, -, hS, h1, -⟩ := exists_real hl
  have hs : scale l = ((1 / ∑ k, e k : ℝ) : EReal) := by
    have h1' : ∀ k, Ideal.exp (l k) = (e k : EReal) := h1
    unfold scale
    simp only [h1']
    rw [coe_sum, Ideal.div_coe hS.ne', one_mul]
  rw [hs, h1 a, h1 b, ← EReal.coe_mul, ← EReal.coe_mul, EReal.coe_lt_coe_iff, EReal.coe_lt_coe_iff]
  exact mul_lt_mul_iff_left₀ (one_div_pos.mpr hS)

/-- THE SORT AND THE ROUNDS: a stable sort of the experts by greater softmax first puts at position `k` the expert that
    round `k` on the exponentials picks. -/
theorem sortedFrom_softmax (k : Fin 8) :
    sortedFrom (fun a b => decide (softmax l b < softmax l a)) (k.castLE (by decide)) = chosen (exps l) k :=
  sortedFrom_eq_chosen (exps_nonneg l) (softmax_lt_iff hl) k

/-- The softmax at the expert that round `k` picks, from the round's maximum. -/
theorem softmax_chosen (k : Fin 8) :
    softmax l (chosen (exps l) k) = greatest (after (exps l) k) * scale l := by
  rw [softmax_eq hl, greatest_after (exps_nonneg l) (by omega)]

end finite

/-- The kernel's index word: the row number that a round finds, converted to a 32-bit integer. -/
theorem fptosi_firstRow (w : Column) : Ideal.fptosi 32 (firstRow w) = BitVec.ofNat 32 (pick w) := by
  rw [firstRow_eq, ← EReal.coe_natCast, Ideal.fptosi, Ideal.toIntClamped_coe, if_pos (Nat.cast_nonneg _), Int.floor_natCast]
  have h : ((pick w : ℕ) : ℤ) < 64 := by exact_mod_cast (pick w).isLt
  rw [min_eq_right (by norm_num; omega), max_eq_right (by norm_num)]
  exact BitVec.ofInt_natCast 32 _

/-! ## The condition is needed -/

/-- Where the greatest logit is infinite, the reference divides zero by zero. -/
theorem softmax_bad {l : Column} (h : ¬ TopFinite l) (r : Fin 64) : softmax l r = ⊥ := by
  have e : ∀ k, Ideal.exp (l k - greatest l) = 0 := fun k => by
    have b : l k - greatest l = ⊥ := by
      rcases not_and_or.1 h with h | h
      · rw [not_ne_iff.1 h, sub_eq_add_neg, EReal.neg_top, EReal.add_bot]
      · have hk : l k = ⊥ := le_bot_iff.1 ((Finset.le_sup (f := l) (Finset.mem_univ k)).trans (not_ne_iff.1 h).le)
        rw [hk, EReal.bot_sub]
    rw [b, Ideal.exp_bot]
  unfold softmax
  simp only [e, Finset.sum_const_zero]
  unfold Ideal.div
  rw [if_pos rfl, if_neg (lt_irrefl _)]

/-- There the kernel's weight is at least zero, so it is never what the reference has. -/
theorem softmax_ne {l : Column} (h : ¬ TopFinite l) (r : Fin 64) : softmax l r ≠ exps l r * scale l := by
  have hs : 0 ≤ scale l := by
    have h0 : 0 ≤ ∑ k, Ideal.exp (l k) := Finset.sum_nonneg fun k _ => exp_nonneg (l k)
    unfold scale Ideal.div
    split_ifs with h1 h2
    · exact le_top
    · exact absurd zero_lt_one h2
    · rw [one_mul]
      exact EReal.inv_nonneg_of_nonneg h0
  rw [softmax_bad h]
  exact (EReal.bot_lt_zero.trans_le (mul_nonneg (exps_nonneg l r) hs)).ne

end Cert.Gating

end
-- ==== Proof.Block.lean ====
/-
  What the kernel's body computes from one block of 2048 tokens, read at one token.

  The body keeps the experts along the rows and the tokens along the columns. Its payloads are first written over three
  vector functions, one for each step of a round (the maximum of every column, the first row that holds it, the column
  with that row struck); a column of each is then the step on that column (Rounds.lean).
-/
module

public import proofs.«01_k».proof.Proof.Gen.KernelIdeal.Skeleton
public import proofs.«01_k».proof.Proof.Softmax
public import Idealize.ShloMosaic.Lib.Pointwise

@[expose] public section

noncomputable section

namespace Cert.Gating

open Idealize.ShloMosaic Cert.KernelIdeal Cert.KernelIdeal.Gen

/-! ## The constants and the folds at the extended reals -/

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_neg_one : Ideal.ofBits .f32 0xBF800000#32 = -1 := by
  rw [← EReal.coe_one, ← EReal.coe_neg]
  simp [Ideal.ofBits, Ideal.ieee, -EReal.coe_mul, -EReal.coe_neg]; norm_num

theorem ofBits_sixty_four : Ideal.ofBits .f32 0x42800000#32 = 64 := by
  rw [show (64 : EReal) = ((64 : ℝ) : EReal) by norm_cast]
  simp [Ideal.ofBits, Ideal.ieee, -EReal.coe_mul]; norm_num

theorem fold_max_eq (w : Column) : Finset.univ.fold max (Ideal.ofBits .f32 0xFF800000#32) w = greatest w := by
  rw [ofBits_neg_inf]; rfl

theorem sitofp_row (r : Fin 64) : FloatOps.sitofp (F := Ideal) .f32 (BitVec.ofNat 32 (r : ℕ)) = ((r : ℕ) : EReal) := by
  have h : (BitVec.ofNat 32 (r : ℕ)).toInt = ((r : ℕ) : ℤ) := by
    have := r.isLt
    rw [BitVec.toInt_ofNat']
    simp only [Int.bmod_def]
    omega
  show (((BitVec.ofNat 32 (r : ℕ)).toInt : ℝ) : EReal) = _
  rw [h, Int.cast_natCast, EReal.coe_natCast]

/-! ## One round on a block -/

section vectors
variable (v : FVec Ideal S64x2048 .f32)

/-- Column `j` of a block. -/
abbrev col (j : Fin 2048) : Column := fun r => v (ix2 r j)

/-- Every column's maximum. -/
def maxes : FVec Ideal S1x2048 .f32 :=
  shapeCast S1x2048 (multiReduction .maximumf [0] S2048 v 0xFF800000#32 reduces_S64x2048_S2048 (.inl rfl) rfl)
    shapeCasts_S2048_S1x2048

/-- The row numbers where a column holds its maximum, 64 elsewhere. -/
def candidates : FVec Ideal S64x2048 .f32 :=
  select (cmpf .oeq v (broadcastTo S64x2048 (maxes v) broadcasts_S1x2048_S64x2048)) (k0_pay12 (F := Ideal))
    (broadcast S64x2048 (Scalar.ofBits .f32 0x42800000#32))

/-- Every column's first row that holds its maximum. -/
def firsts : FVec Ideal S1x2048 .f32 :=
  shapeCast S1x2048 (multiReduction .minimumf [0] S2048 (candidates v) 0x7F800000#32 reduces_S64x2048_S2048 (.inl rfl) rfl)
    shapeCasts_S2048_S1x2048

/-- The block with that row of every column struck. -/
def struck : FVec Ideal S64x2048 .f32 :=
  select (cmpf .oeq (k0_pay12 (F := Ideal)) (broadcastTo S64x2048 (firsts v) broadcasts_S1x2048_S64x2048))
    (broadcast S64x2048 (Scalar.ofBits .f32 0xBF800000#32)) v

theorem maxes_apply (i : Fin 1) (j : Fin 2048) : maxes v (ix2 i j) = greatest (col v j) := by
  pointwise [maxes]
  exact fold_max_eq (col v j)

theorem firsts_apply (i : Fin 1) (j : Fin 2048) : firsts v (ix2 i j) = firstRow (col v j) := by
  pointwise [firsts, candidates, k0_pay12]
  simp only [sitofp_row, maxes_apply, ofBits_sixty_four, ofBits_inf]
  rfl

theorem col_struck (j : Fin 2048) : col (struck v) j = strike (col v j) := by
  funext r
  show struck v (ix2 r j) = _
  pointwise [struck, k0_pay12]
  simp only [sitofp_row, firsts_apply, ofBits_neg_one]
  rfl

/-- The block that round `k` starts from. -/
def rounds : ℕ → FVec Ideal S64x2048 .f32
  | 0 => v
  | k + 1 => struck (rounds k)

theorem rounds_succ (k : ℕ) : rounds v (k + 1) = struck (rounds v k) := rfl

theorem col_rounds (k : ℕ) (j : Fin 2048) : col (rounds v k) j = after (col v j) k := by
  induction k with
  | zero => rfl
  | succ k ih => rw [rounds_succ, col_struck, ih, after_succ]

theorem maxes_rounds (k : ℕ) (i : Fin 1) (j : Fin 2048) : maxes (rounds v k) (ix2 i j) = greatest (after (col v j) k) := by
  rw [maxes_apply, col_rounds]

theorem firsts_rounds (k : ℕ) (i : Fin 1) (j : Fin 2048) : firsts (rounds v k) (ix2 i j) = firstRow (after (col v j) k) := by
  rw [firsts_apply, col_rounds]

end vectors

/-! ## The payloads as rounds -/

section payloads
variable (w : Vec Ideal S64x2048 .f32) (x : Vec Ideal S2048x2048 .f32) (b : Vec Ideal S64x1 .f32)

/-- The exponentials of the block's logits. -/
abbrev block : FVec Ideal S64x2048 .f32 := k0_pay9 (F := Ideal) w x b

theorem pay13_eq : k0_pay13 (F := Ideal) w x b = maxes (rounds (block w x b) 0) := rfl
theorem pay14_eq : k0_pay14 (F := Ideal) w x b = firsts (rounds (block w x b) 0) := rfl
theorem pay15_of : k0_pay15 (F := Ideal) w x b = struck (block w x b) := rfl
theorem pay15_eq : k0_pay15 (F := Ideal) w x b = rounds (block w x b) 1 := pay15_of w x b
theorem pay16_eq : k0_pay16 (F := Ideal) w x b = maxes (rounds (block w x b) 1) := by
  rw [← pay15_eq]; rfl
theorem pay17_eq : k0_pay17 (F := Ideal) w x b = firsts (rounds (block w x b) 1) := by
  rw [← pay15_eq]; rfl
theorem pay19_eq : k0_pay19 (F := Ideal) (rounds (block w x b) 1) (k0_pay18 w x b) = rounds (block w x b) 2 := by
  rw [rounds_succ _ 1]
  unfold struck
  rw [← pay17_eq]; rfl

/-! From here the payloads take the row numbers `v17`, the block `v29` after the first round and the mask `v39` of the
    second. -/

section later
variable (u : FVec Ideal S64x2048 .f32) (q : IVec S64x2048 1)

theorem pay20_of : k0_pay20 (F := Ideal) u q = maxes (k0_pay19 u q) := rfl
theorem pay21_of : k0_pay21 (F := Ideal) k0_pay12 u q = firsts (k0_pay19 u q) := rfl
theorem pay22_of : k0_pay22 (F := Ideal) k0_pay12 u q = struck (k0_pay19 u q) := rfl
theorem pay23_of : k0_pay23 (F := Ideal) k0_pay12 u q = maxes (k0_pay22 k0_pay12 u q) := rfl
theorem pay24_of : k0_pay24 (F := Ideal) k0_pay12 u q = firsts (k0_pay22 k0_pay12 u q) := rfl
theorem pay25_of : k0_pay25 (F := Ideal) k0_pay12 u q = struck (k0_pay22 k0_pay12 u q) := rfl
theorem pay26_of : k0_pay26 (F := Ideal) k0_pay12 u q = maxes (k0_pay25 k0_pay12 u q) := rfl
theorem pay27_of : k0_pay27 (F := Ideal) k0_pay12 u q = firsts (k0_pay25 k0_pay12 u q) := rfl
theorem pay28_of : k0_pay28 (F := Ideal) k0_pay12 u q = struck (k0_pay25 k0_pay12 u q) := rfl
theorem pay29_of : k0_pay29 (F := Ideal) k0_pay12 u q = maxes (k0_pay28 k0_pay12 u q) := rfl
theorem pay30_of : k0_pay30 (F := Ideal) k0_pay12 u q = candidates (k0_pay28 k0_pay12 u q) := rfl
theorem pay1_of : k0_pay1 (F := Ideal) (candidates u) = firsts u := rfl
theorem pay2_of : k0_pay2 (F := Ideal) k0_pay12 u (candidates u) = struck u := rfl
theorem pay3_of : k0_pay3 (F := Ideal) k0_pay12 u (candidates u) = maxes (struck u) := rfl
theorem pay4_of : k0_pay4 (F := Ideal) k0_pay12 u (candidates u) = firsts (struck u) := rfl
theorem pay5_of : k0_pay5 (F := Ideal) k0_pay12 u (candidates u) = struck (struck u) := rfl
theorem pay6_of : k0_pay6 (F := Ideal) k0_pay12 u (candidates u) = maxes (struck (struck u)) := rfl

end later

theorem pay22_eq : k0_pay22 (F := Ideal) k0_pay12 (rounds (block w x b) 1) (k0_pay18 w x b) = rounds (block w x b) 3 := by
  rw [pay22_of, pay19_eq, ← rounds_succ]
theorem pay25_eq : k0_pay25 (F := Ideal) k0_pay12 (rounds (block w x b) 1) (k0_pay18 w x b) = rounds (block w x b) 4 := by
  rw [pay25_of, pay22_eq, ← rounds_succ]
theorem pay28_eq : k0_pay28 (F := Ideal) k0_pay12 (rounds (block w x b) 1) (k0_pay18 w x b) = rounds (block w x b) 5 := by
  rw [pay28_of, pay25_eq, ← rounds_succ]

/-- The column of exponentials of one token of the block: `logit` is the token's row of logits. -/
theorem col_block (j : Fin 2048) :
    col (block w x b) j = exps fun r => (∑ k, w (ix2 r k) * x (ix2 j k)) + b (ix2 r 0) := by
  funext r
  show k0_pay9 (F := Ideal) w x b (ix2 r j) = _
  pointwise [k0_pay9]
  rfl

/-- The weights that the body stores, at one token and expert. -/
theorem pay11_apply (j : Fin 2048) (r : Fin 64) (l : Column) (hl : col (block w x b) j = exps l) :
    k0_pay11 (F := Ideal) w x b (ix2 j r) = exps l r * scale l := by
  have h : ∀ r, k0_pay9 (F := Ideal) w x b (ix2 r j) = exps l r := congrFun hl
  pointwise [k0_pay11, k0_pay10]
  simp only [h]
  rfl

/-- Eight rows one on another. -/
def stack (f : ℕ → FVec Ideal S1x2048 .f32) : FVec Ideal S8x2048 .f32 :=
  concatenate S8x2048 0 [⟨S1x2048, f 0⟩, ⟨S1x2048, f 1⟩, ⟨S1x2048, f 2⟩, ⟨S1x2048, f 3⟩, ⟨S1x2048, f 4⟩, ⟨S1x2048, f 5⟩,
    ⟨S1x2048, f 6⟩, ⟨S1x2048, f 7⟩]
    concatenates_S1x2048_S1x2048_S1x2048_S1x2048_S1x2048_S1x2048_S1x2048_S1x2048_S8x2048_d0

theorem stack_apply (f : ℕ → FVec Ideal S1x2048 .f32) (k : Fin 8) (j : Fin 2048) : stack f (ix2 k j) = f k (ix2 0 j) := by
  pointwise [stack]
  fin_cases k <;> rfl

/-- The last three index rows, which the body's last payload computes itself. -/
theorem pay7_of (e : FVec Ideal S64x2048 .f32) :
    k0_pay7 (F := Ideal) k0_pay12 (firsts (rounds e 0)) (firsts (rounds e 1)) (firsts (rounds e 2)) (firsts (rounds e 3))
        (firsts (rounds e 4)) (rounds e 5) (candidates (rounds e 5))
      = transpose S2048x8 [1, 0] (fptosi 32 (stack fun k => firsts (rounds e k))) transposes_S8x2048_p1_0_S2048x8 := rfl

theorem pay8_of (s : FVec Ideal S1x2048 .f32) (e : FVec Ideal S64x2048 .f32) :
    k0_pay8 (F := Ideal) s k0_pay12 (maxes (rounds e 0)) (maxes (rounds e 1)) (maxes (rounds e 2)) (maxes (rounds e 3))
        (maxes (rounds e 4)) (rounds e 5) (maxes (rounds e 5)) (candidates (rounds e 5))
      = transpose S2048x8 [1, 0] (mulf (stack fun k => maxes (rounds e k)) (broadcastTo S8x2048 s broadcasts_S1x2048_S8x2048))
          transposes_S8x2048_p1_0_S2048x8 := rfl

/-- The chosen experts that the body stores, at one token and rank. -/
theorem pay7_apply (j : Fin 2048) (k : Fin 8) (l : Column) (hl : col (block w x b) j = exps l) :
    k0_pay7 (F := Ideal) k0_pay12 (k0_pay14 w x b) (k0_pay17 w x b) (k0_pay21 k0_pay12 (k0_pay15 w x b) (k0_pay18 w x b))
        (k0_pay24 k0_pay12 (k0_pay15 w x b) (k0_pay18 w x b)) (k0_pay27 k0_pay12 (k0_pay15 w x b) (k0_pay18 w x b))
        (k0_pay28 k0_pay12 (k0_pay15 w x b) (k0_pay18 w x b)) (k0_pay30 k0_pay12 (k0_pay15 w x b) (k0_pay18 w x b)) (ix2 j k)
      = BitVec.ofNat 32 (chosen (exps l) k) := by
  rw [pay14_eq, pay17_eq, pay15_eq, pay21_of, pay24_of, pay27_of, pay30_of, pay19_eq, pay22_eq, pay25_eq, pay28_eq, pay7_of]
  pointwise
  rw [stack_apply, firsts_rounds, hl]
  exact fptosi_firstRow _

/-- The chosen experts' weights that the body stores, at one token and rank. -/
theorem pay8_apply (j : Fin 2048) (k : Fin 8) (l : Column) (hl : col (block w x b) j = exps l) :
    k0_pay8 (F := Ideal) (k0_pay10 w x b) k0_pay12 (k0_pay13 w x b) (k0_pay16 w x b) (k0_pay20 (k0_pay15 w x b) (k0_pay18 w x b))
        (k0_pay23 k0_pay12 (k0_pay15 w x b) (k0_pay18 w x b)) (k0_pay26 k0_pay12 (k0_pay15 w x b) (k0_pay18 w x b))
        (k0_pay28 k0_pay12 (k0_pay15 w x b) (k0_pay18 w x b)) (k0_pay29 k0_pay12 (k0_pay15 w x b) (k0_pay18 w x b))
        (k0_pay30 k0_pay12 (k0_pay15 w x b) (k0_pay18 w x b)) (ix2 j k)
      = greatest (after (exps l) k) * scale l := by
  have h : ∀ r, k0_pay9 (F := Ideal) w x b (ix2 r j) = exps l r := congrFun hl
  rw [pay13_eq, pay16_eq, pay15_eq, pay20_of, pay23_of, pay26_of, pay29_of, pay30_of, pay19_eq, pay22_eq, pay25_eq, pay28_eq,
    pay8_of]
  pointwise [k0_pay10]
  simp only [stack_apply, maxes_rounds, hl, h]
  rfl

end payloads

end Cert.Gating

end
-- ==== Proof.Arrays.lean ====
/-
  The kernel's three result arrays after its run, each as a function of the argument arrays.
-/
module

public import Idealize.ShloMosaic.Lib.Pipeline.ValueKit
public import proofs.«01_k».proof.Proof.Gen.KernelIdeal.Frame
public import proofs.«01_k».proof.Proof.Block

@[expose] public section

set_option maxRecDepth 16384

noncomputable section

namespace Cert.Gating

open Cert.KernelIdeal Cert.KernelIdeal.Gen Idealize.ShloMosaic Idealize.ShloMosaic.TcCoe Idealize.SL.Sem
open Idealize.ShloMosaic.Pipeline (Dat)

/-- Token `i`'s logits, one per expert. -/
def logits (x : FVec Ideal S16384x2048 .f32) (w : FVec Ideal S64x2048 .f32) (b : FVec Ideal S64 .f32)
    (i : Fin 16384) : Column :=
  fun r => (∑ k, w (ix2 r k) * x (ix2 i k)) + b (ix1 r)

/-- Every token's softmax over its logits. -/
def weights (l : Fin 16384 → Column) : FVec Ideal S16384x64 .f32 :=
  fun y => exps (l (y 0)) (y 1) * scale (l (y 0))

/-- The eight largest softmax weights of every token, largest first. -/
def topWeights (l : Fin 16384 → Column) : FVec Ideal S16384x8 .f32 :=
  fun y => greatest (after (exps (l (y 0))) (y 1)) * scale (l (y 0))

/-- The experts that hold those weights. -/
def topExperts (l : Fin 16384 → Column) : IVec S16384x8 32 :=
  fun y => BitVec.ofNat 32 (chosen (exps (l (y 0))) (y 1))

variable (m : (ℓ : Loc nD τ sig) → Buf (Elt Ideal) ℓ)

/-- The logits of the arrays that core `c` holds. -/
abbrev logitsAt (c : Dev nD) : Fin 16384 → Column :=
  logits (m ((c : Thread nD τ).loc main_arg0)) (m ((c : Thread nD τ).loc main_arg1)) (m ((c : Thread nD τ).loc main_arg2))

/-- Which block every window takes at a grid point. -/
theorem idx : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧
    win0_2.index t = ![0, 0] ∧ win0_3.index t = ![t.val, 0] ∧ win0_4.index t = ![t.val, 0] ∧ win0_5.index t = ![t.val, 0])

/-- Row `j` of the token block at point `t`, as a row of the whole array. -/
def row (t : Fin cfg0.N) (j : Fin 2048) : Fin 16384 :=
  ⟨2048 * t.val + j.val, by have := t.isLt; have : cfg0.N = 8 := N_0; omega⟩

/-- A column of the body's scores over the blocks at point `t` is its token's exponentials. -/
theorem col_blocks (c : Dev nD) (t : Fin cfg0.N) (j : Fin 2048) :
    col (block (iblk m c 1 t) (iblk m c 0 t) (iblk m c 2 t)) j = exps (logitsAt m c (row t j)) := by
  obtain ⟨e0, e1, e2, -⟩ := idx t
  rw [col_block]
  congr 1
  funext r
  have hb : iblk m c 2 t (ix2 r 0) = m ((c : Thread nD τ).loc main_arg2) (ix1 r) := by
    blk_simp [iblk, e2]
    entry_read
    pointwise
    blk_ext [e2]
  have hw : ∀ k, iblk m c 1 t (ix2 r k) = m ((c : Thread nD τ).loc main_arg1) (ix2 r k) := fun k => by
    blk_ext [iblk, V, e1]
  have hx : ∀ k, iblk m c 0 t (ix2 j k) = m ((c : Thread nD τ).loc main_arg0) (ix2 (row t j) k) := fun k => by
    unfold row
    blk_ext [iblk, V, e0]
  simp only [logitsAt, logits, hb, hw, hx]

theorem array5 (c : Dev nD) : (dats m 0 c).arrAt 5 cfg0.N = weights (logitsAt m c) := by
  refine (dats m 0 c).arrAt_eq_of_covers 5 _ (by decide +kernel) fun t hf y => ?_
  obtain ⟨-, -, -, -, -, e⟩ := idx t
  blk_simp
  rw [after0_5]
  frame_out
  have hy : (((View.whole main_v1_2).slice (win0_5.rect t)).emb y) = ix2 (row t (y 0)) (y 1) := by
    unfold row
    blk_ext [e]
  rw [hy]
  exact (congrArg _ (eq_ix2 y)).trans (pay11_apply _ _ _ (y 0) (y 1) _ (col_blocks m c t (y 0)))

theorem array3 (c : Dev nD) : (dats m 0 c).arrAt 3 cfg0.N = topWeights (logitsAt m c) := by
  refine (dats m 0 c).arrAt_eq_of_covers 3 _ (by decide +kernel) fun t hf y => ?_
  obtain ⟨-, -, -, e, -, -⟩ := idx t
  blk_simp
  rw [after0_3]
  frame_out
  have hy : (((View.whole main_v1_0).slice (win0_3.rect t)).emb y) = ix2 (row t (y 0)) (y 1) := by
    unfold row
    blk_ext [e]
  rw [hy]
  have h := col_blocks m c t
  unfold k0_pay34 k0_pay35
  unfold k0_pay31 k0_pay32 k0_pay33
  simp (disch := decide) only [View.ld_unit_lit]
  generalize iblk m c 0 t = X, iblk m c 1 t = W, iblk m c 2 t = B at h ⊢
  obtain ⟨j, k, rfl⟩ : ∃ (j : Fin 2048) (k : Fin 8), y = ix2 j k := ⟨y 0, y 1, eq_ix2 y⟩
  exact pay8_apply W X B j k _ (h j)

theorem array4 (c : Dev nD) : (dats m 0 c).arrAt 4 cfg0.N = topExperts (logitsAt m c) := by
  refine (dats m 0 c).arrAt_eq_of_covers 4 _ (by decide +kernel) fun t hf y => ?_
  obtain ⟨-, -, -, -, e, -⟩ := idx t
  blk_simp
  rw [after0_4]
  frame_out
  have hy : (((View.whole main_v1_1).slice (win0_4.rect t)).emb y) = ix2 (row t (y 0)) (y 1) := by
    unfold row
    blk_ext [e]
  rw [hy]
  have h := col_blocks m c t
  unfold k0_pay34 k0_pay35
  unfold k0_pay31 k0_pay32 k0_pay33
  simp (disch := decide) only [View.ld_unit_lit]
  generalize iblk m c 0 t = X, iblk m c 1 t = W, iblk m c 2 t = B at h ⊢
  obtain ⟨j, k, rfl⟩ : ∃ (j : Fin 2048) (k : Fin 8), y = ix2 j k := ⟨y 0, y 1, eq_ix2 y⟩
  exact pay7_apply W X B j k _ (h j)

/-- The kernel's run leaves the three result arrays so, and its arguments as they were. -/
theorem run_kernel (ρ : Dev nD → PrngReg) :
    θ_run defs (onTc (τ := τ) (main (F := Ideal))) ⟨m, fun _ => 0, ρ⟩ fun r => ∀ c : Dev nD,
      r.2.mem ((c : Thread nD τ).loc main_v1_0) = topWeights (logitsAt m c)
      ∧ r.2.mem ((c : Thread nD τ).loc main_v1_1) = topExperts (logitsAt m c)
      ∧ r.2.mem ((c : Thread nD τ).loc main_v1_2) = weights (logitsAt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).1 3).trans (array3 m c), ((h c).1 4).trans (array4 m c), ((h c).1 5).trans (array5 m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (V_main_arg2 m c)⟩)
    (run_main m ρ)

end Cert.Gating
-- ==== Proof.Reference.lean ====
/-
  The reference's three results and the precondition, read at one token of the argument arrays.
-/
module

public import Idealize.ShloMosaic.Lib.ReduceAll
public import Idealize.ShloMosaic.Lib.Pointwise
public import proofs.«01_k».proof.Proof.Gen.ReferenceIdeal.Run
public import proofs.«01_k».proof.Proof.Gen.Pre_largest_logit_finite
public import proofs.«01_k».proof.Proof.Arrays

@[expose] public section

set_option maxRecDepth 16384

noncomputable section

namespace Cert.Gating

open Cert.ReferenceIdeal Cert.ReferenceIdeal.Gen Idealize.ShloMosaic

variable (x : FVec Ideal S16384x2048 .f32) (w : FVec Ideal S64x2048 .f32) (b : FVec Ideal S64 .f32)

/-- The reference's logits. -/
def refLogits : FVec Ideal S16384x64 .f32 :=
  addf (Host.dotGeneral dot_S16384x2048_S2048x64_S16384x64_1_0_0_1_n_n none x
      (transpose S2048x64 [1, 0] w transposes_S64x2048_S2048x64_1_0))
    (broadcastInDim S16384x64 ![0, 1] bcast_S1x64_S16384x64_0_1 (broadcastInDim S1x64 ![1] bcast_S64_S1x64_1 b))

/-- The largest logit of every token, as a column. -/
def refMax (v : FVec Ideal S16384x64 .f32) : FVec Ideal S16384 .f32 :=
  maximumf (broadcastInDim S16384 ![] bcast_S_S16384 (constant S_ .f32 0xFF800000#32))
    (Host.reduce FloatOps.maximumf v (constant S_ .f32 0xFF800000#32) reducesTo_S16384x64_S16384_d1 h_S_)

/-- The exponentials of the logits less their token's largest. -/
def refExps (v : FVec Ideal S16384x64 .f32) : FVec Ideal S16384x64 .f32 :=
  Host.exp (subf v (broadcastInDim S16384x64 ![0, 1] bcast_S16384x1_S16384x64_0_1
    (broadcastInDim S16384x1 ![0] bcast_S16384_S16384x1_0 (refMax v))))

/-- The reference's softmax. -/
def refWeights (v : FVec Ideal S16384x64 .f32) : FVec Ideal S16384x64 .f32 :=
  Host.divf (refExps v) (broadcastInDim S16384x64 ![0, 1] bcast_S16384x1_S16384x64_0_1
    (broadcastInDim S16384x1 ![0] bcast_S16384_S16384x1_0
      (Host.reduceAdd (refExps v) (constant S_ .f32 0x00000000#32) reducesTo_S16384x64_S16384_d1 h_S_)))

theorem refLogits_apply (i : Fin 16384) (r : Fin 64) : refLogits x w b (ix2 i r) = logits x w b i r := by
  unfold refLogits
  pointwise
  simp only [logits, mul_comm]

theorem refMax_apply (v : FVec Ideal S16384x64 .f32) (i : Fin 16384) :
    refMax v (ix1 i) = greatest fun r => v (ix2 i r) := by
  unfold refMax
  pointwise
  rw [fold_max_eq, ofBits_neg_inf, max_eq_right bot_le]

theorem refExps_apply (v : FVec Ideal S16384x64 .f32) (i : Fin 16384) (r : Fin 64) :
    refExps v (ix2 i r) = Ideal.exp (v (ix2 i r) - greatest fun r => v (ix2 i r)) := by
  unfold refExps
  pointwise
  rw [refMax_apply]

theorem refWeights_apply (v : FVec Ideal S16384x64 .f32) (i : Fin 16384) (r : Fin 64) :
    refWeights v (ix2 i r) = softmax (fun r => v (ix2 i r)) r := by
  unfold refWeights
  pointwise
  simp only [refExps_apply, softmax]

/-- An index moved along the second axis. -/
theorem along_row (i : Fin 16384) (q a : Fin 64) : (ix2 i q).along (1 : Fin 2) a = ix2 i a := by
  funext d
  fin_cases d <;> rfl

/-- "Greater" in the sort of a top-k, at two places of one row. -/
theorem before_row (v : FVec Ideal S16384x64 .f32) (i : Fin 16384) (q : Fin 64) :
    (fun a b : Fin 64 =>
        FloatOps.cmpfTotal (F := Ideal) (φ := .f32) .gt (v ((ix2 i q).along (1 : Fin 2) a)) (v ((ix2 i q).along (1 : Fin 2) b))
          == 1#1)
      = fun a b => decide (v (ix2 i b) < v (ix2 i a)) := by
  funext a b
  rw [along_row, along_row]
  change (BitVec.ofBool (decide (v (ix2 i b) < v (ix2 i a))) == 1#1) = _
  cases decide (v (ix2 i b) < v (ix2 i a)) <;> rfl

/-- The column that comes to place `q` when row `i` is sorted from the greatest, as a top-k's sort spells it. -/
theorem sort_row (v : FVec Ideal S16384x64 .f32) (i : Fin 16384) (q : Fin 64) :
    (ix2 i q).along (1 : Fin 2) (sortedFrom (fun a b : Fin 64 =>
        FloatOps.cmpfTotal (F := Ideal) (φ := .f32) .gt (v ((ix2 i q).along (1 : Fin 2) a)) (v ((ix2 i q).along (1 : Fin 2) b))
          == 1#1) q)
      = ix2 i (sortedFrom (fun a b => decide (v (ix2 i b) < v (ix2 i a))) q) :=
  (along_row i q _).trans (congrArg (fun f => ix2 i (sortedFrom f q)) (before_row v i q))

attribute [local irreducible] sortedFrom in
/-- A top-k of an array, at one row: the values and the columns that come first when the row is sorted. -/
theorem topK_apply (v : FVec Ideal S16384x64 .f32) (i : Fin 16384) (k : Fin 8) :
    (Host.topK S16384x8 1 (FloatOps.cmpfTotal .gt) v sliceFits_S16384x64_S16384x8).1 (ix2 i k)
      = v (ix2 i (sortedFrom (fun a b => decide (v (ix2 i b) < v (ix2 i a))) (k.castLE (by decide)))) ∧
    (Host.topK S16384x8 1 (FloatOps.cmpfTotal .gt) v sliceFits_S16384x64_S16384x8).2 (ix2 i k)
      = BitVec.ofNat 32 (sortedFrom (fun a b => decide (v (ix2 i b) < v (ix2 i a))) (k.castLE (by decide))) := by
  have h := sort_row v i (k.castLE (by decide))
  have h1 := congrArg v h
  have h2 := congrArg (fun y : S16384x64.Idx => BitVec.ofNat 32 (y 1)) h
  unfold Host.topK Host.sort2
  constructor
  · pointwise
    exact h1
  · pointwise
    exact h2

/-- What the precondition says of every token. -/
theorem topFinite_of_pre (h : Cert.Pre_largest_logit_finite.fn (F := Ideal) x w b = fun _ => 1#1) (i : Fin 16384) :
    TopFinite (logits x w b i) := by
  unfold Cert.Pre_largest_logit_finite.fn at h
  have h1 := Host.reduce_andi_all _ _ _ _ _ (congrFun h ix0) (ix1 i)
  pointwise at h1
  rw [fold_max_eq, ofBits_inf] at h1
  have e : (fun r => ∑ k, x (ix2 i k) * w (ix2 r k) + b (ix1 r)) = logits x w b i := by
    funext r
    simp only [logits, mul_comm]
  rw [e] at h1
  have h2 : max (greatest (logits x w b i)) (-greatest (logits x w b i)) < ⊤ := by
    by_contra hc
    change BitVec.ofBool (decide (max (greatest (logits x w b i)) (-greatest (logits x w b i)) < ⊤)) = 1#1 at h1
    rw [decide_eq_false hc] at h1
    exact absurd h1 (by decide)
  obtain ⟨h3, h4⟩ := max_lt_iff.1 h2
  refine ⟨h3.ne, fun hb => ?_⟩
  rw [hb, EReal.neg_bot] at h4
  exact lt_irrefl _ h4

/-- The reference's softmax array is the kernel's. -/
theorem refWeights_eq (h : ∀ i, TopFinite (logits x w b i)) :
    refWeights (refLogits x w b) = weights (logits x w b) := by
  funext y
  obtain ⟨i, r, rfl⟩ : ∃ (i : Fin 16384) (r : Fin 64), y = ix2 i r := ⟨y 0, y 1, eq_ix2 y⟩
  rw [refWeights_apply]
  simp only [refLogits_apply]
  exact softmax_eq (h i) r

/-- The kernel's softmax array at one token. -/
theorem weights_row (h : ∀ i, TopFinite (logits x w b i)) (i : Fin 16384) (r : Fin 64) :
    weights (logits x w b) (ix2 i r) = softmax (logits x w b i) r :=
  (softmax_eq (h i) r).symm

/-- The reference's largest weights are the kernel's. -/
theorem topValues_eq (h : ∀ i, TopFinite (logits x w b i)) :
    (Host.topK S16384x8 1 (FloatOps.cmpfTotal .gt) (weights (logits x w b)) sliceFits_S16384x64_S16384x8).1
      = topWeights (logits x w b) := by
  funext y
  obtain ⟨i, k, rfl⟩ : ∃ (i : Fin 16384) (k : Fin 8), y = ix2 i k := ⟨y 0, y 1, eq_ix2 y⟩
  rw [(topK_apply _ i k).1]
  simp only [weights_row x w b h]
  rw [sortedFrom_softmax (h i), softmax_chosen (h i)]
  rfl

/-- The reference's chosen experts are the kernel's. -/
theorem topIndices_eq (h : ∀ i, TopFinite (logits x w b i)) :
    (Host.topK S16384x8 1 (FloatOps.cmpfTotal .gt) (weights (logits x w b)) sliceFits_S16384x64_S16384x8).2
      = topExperts (logits x w b) := by
  funext y
  obtain ⟨i, k, rfl⟩ : ∃ (i : Fin 16384) (k : Fin 8), y = ix2 i k := ⟨y 0, y 1, eq_ix2 y⟩
  rw [(topK_apply _ i k).2]
  simp only [weights_row x w b h]
  rw [sortedFrom_softmax (h i)]
  rfl

open Idealize.ShloMosaic.TcCoe Idealize.SL.Sem

/-- Where every token's largest logit is finite, the reference's run leaves the three result arrays that the kernel's
    leaves, and its arguments as they were. -/
theorem run_reference (m : (ℓ : Loc nD τ sig) → Buf (Elt Ideal) ℓ) (ρ : Dev nD → PrngReg)
    (x : Dev nD → FVec Ideal S16384x2048 .f32) (w : Dev nD → FVec Ideal S64x2048 .f32) (b : Dev nD → FVec Ideal S64 .f32)
    (hx : ∀ c : Dev nD, m ((c : Thread nD τ).loc main_arg0) = x c)
    (hw : ∀ c : Dev nD, m ((c : Thread nD τ).loc main_arg1) = w c)
    (hb : ∀ c : Dev nD, m ((c : Thread nD τ).loc main_arg2) = b c)
    (h : ∀ c i, TopFinite (logits (x c) (w c) (b c) i)) :
    θ_run defs (onTc (τ := τ) (main (F := Ideal))) ⟨m, fun _ => 0, ρ⟩ fun r => ∀ c : Dev nD,
      r.2.mem ((c : Thread nD τ).loc main_values) = topWeights (logits (x c) (w c) (b c))
      ∧ r.2.mem ((c : Thread nD τ).loc main_indices) = topExperts (logits (x c) (w c) (b c))
      ∧ r.2.mem ((c : Thread nD τ).loc main_v15) = weights (logits (x c) (w c) (b c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r k c => ?_) (Cert.ReferenceIdeal.Value.run (F := Ideal) m ρ)
  obtain ⟨k0, k1, k2, ks⟩ := k c
  rw [hx c, hw c, hb c] at k0 k1 k2
  have e := refWeights_eq (x c) (w c) (b c) (h c)
  unfold refWeights refExps refMax refLogits at e
  rw [e] at k0 k1 k2
  exact ⟨k0.trans (topValues_eq _ _ _ (h c)), k1.trans (topIndices_eq _ _ _ (h c)), k2, ks⟩

end Cert.Gating
-- ==== Proof.lean ====
/-
  The proof of `Cert.Claim` (proofs.«01_k».proof.Defs): the frames of the kernel, its idealization and the reference, and
  the agreement of their results on the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_largest_logit_finite
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged, and no semaphore is left counted. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
          r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run (Cert.ReferenceIdeal.defs (F := Ideal)) _ _).mono
    (fun r h => ⟨fun c => (h c).2.2.2, Idealize.ShloMosaic.sem_eq_zero_of_no_sems (by decide) r.2⟩)
    (Cert.ReferenceIdeal.Value.run (F := Ideal) m ρ)

/-- On the extended reals the kernel and the reference leave the same three arrays, where every token's largest logit is
    finite. -/
theorem value : Cert.algebraic_KernelIdeal_ReferenceIdeal_pre_largest_logit_finite := by
  intro m ρ m' ρ' hpre hagree
  exact ⟨fun c => Gating.topWeights (Gating.logitsAt m c), fun c => Gating.topExperts (Gating.logitsAt m c),
    fun c => Gating.weights (Gating.logitsAt m c), Gating.run_kernel m ρ,
    Gating.run_reference m' ρ' _ _ _ (fun c => (hagree c).1) (fun c => (hagree c).2.1) (fun c => (hagree c).2.2)
      fun c => Gating.topFinite_of_pre _ _ _ (hpre c)⟩

theorem claim : Cert.Claim :=
  ⟨Cert.Kernel.Gen.facts, Cert.KernelIdeal.Gen.facts, Cert.ReferenceIdeal.Gen.facts, Cert.Pre_largest_logit_finite.Gen.facts,
    fun m ρ _ => Cert.Kernel.Gen.frame m ρ, fun m ρ _ => Cert.KernelIdeal.Gen.frame m ρ,
    fun m ρ _ => Cert.KernelIdeal.Gen.frame m ρ, fun m ρ _ => frame_reference m ρ, fun m ρ _ => frame_reference m ρ,
    trivial, value⟩

end Cert.Proof

end
